-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ties_agree [hPre_ties_agree : Cert.Pre_ties_agree.Facts] (m : (ℓ : Loc Cert.KernelIdeal.nD Cert.KernelIdeal.τ Cert.KernelIdeal.sig) → Buf (Elt Ideal) ℓ) : Prop :=
  ∀ c : Dev Cert.KernelIdeal.nD,
    (Cert.Pre_ties_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ties_agree [hPre_ties_agree : Cert.Pre_ties_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ties_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ties_agree [hKernelIdeal : Cert.KernelIdeal.Facts] [hPre_ties_agree : Cert.Pre_ties_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ties_agree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ties_agree [hReferenceIdeal : Cert.ReferenceIdeal.Facts] [hPre_ties_agree : Cert.Pre_ties_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ties_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ties_agree [hKernelIdeal : Cert.KernelIdeal.Facts] [hReferenceIdeal : Cert.ReferenceIdeal.Facts] [hPre_ties_agree : Cert.Pre_ties_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ties_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ties_agree : Cert.Pre_ties_agree.Facts),
    quiescent_Kernel (hKernel := hKernel)
    ∧ quiescent_KernelIdeal (hKernelIdeal := hKernelIdeal)
    ∧ quiescent_KernelIdeal_pre_ties_agree (hKernelIdeal := hKernelIdeal) (hPre_ties_agree := hPre_ties_agree)
    ∧ quiescent_ReferenceIdeal (hReferenceIdeal := hReferenceIdeal)
    ∧ quiescent_ReferenceIdeal_pre_ties_agree (hReferenceIdeal := hReferenceIdeal) (hPre_ties_agree := hPre_ties_agree)
    ∧ preserves_Kernel_KernelIdeal
    ∧ algebraic_KernelIdeal_ReferenceIdeal_pre_ties_agree (hKernelIdeal := hKernelIdeal) (hReferenceIdeal := hReferenceIdeal) (hPre_ties_agree := hPre_ties_agree)
-- ==== Pre_ties_agree.lean ====
abbrev S8x2048x1024 : Shape := ⟨3, ![8, 2048, 1024]⟩
abbrev S512x1024 : Shape := ⟨2, ![512, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024x1 : Shape := ⟨2, ![1024, 1]⟩
abbrev S1024x512 : Shape := ⟨2, ![1024, 512]⟩
abbrev S1x1024 : Shape := ⟨2, ![1, 1024]⟩

class Facts : Prop where
  shapeCasts_S8x2048x1024_S16384x1024 : S8x2048x1024.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  transposes_S512x1024_S1024x512_1_0 : S512x1024.Transposes [1, 0] S1024x512
  reducesTo_S1024x512_S1024_d1 : S1024x512.ReducesTo [1] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []
  dot_S1024x1024_S1024x512_S1024x512_1_0_0_1_n_n_wf : DotDims.WF S1024x1024 S1024x512 S1024x512 [1] [0] [0] [1] [] []

variable [Facts]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def fn_norm {F : FTy → Type} [FloatOps F] (arg0 : FVec F S16384x1024 .f32) : FVec F S16384x1 .f32 :=
  let v0 : FVec F S16384x1024 .f32 := mulf arg0 arg0
  let cst : FVec F S_ .f32 := constant S_ .f32 0x00000000#32
  let v1 : FVec F S16384 .f32 := (fun x v => Host.reduceAdd x v reducesTo_S16384x1024_S16384_d1 h_S_) v0 cst
  let v2 : FVec F S16384x1 .f32 := broadcastInDim S16384x1 ![0] bcast_S16384_S16384x1_0 v1
  let v3 : FVec F S16384x1 .f32 := Host.sqrt v2
  v3

def fn_clip {F : FTy → Type} [FloatOps F] (arg0 : FVec F S16384x1 .f32) (arg1 : FVec F S_ .f32) : FVec F S16384x1 .f32 :=
  let v0 : FVec F S_ .f32 := id arg1
  let v1 : FVec F S16384x1 .f32 := broadcastInDim S16384x1 ![] bcast_S_S16384x1 v0
  let v2 : FVec F S16384x1 .f32 := maximumf v1 arg0
  v2

def fn_norm_0 {F : FTy → Type} [FloatOps F] (arg0 : FVec F S1024x1024 .f32) : FVec F S1024x1 .f32 :=
  let v0 : FVec F S1024x1024 .f32 := mulf arg0 arg0
  let cst : FVec F S_ .f32 := constant S_ .f32 0x00000000#32
  let v1 : FVec F S1024 .f32 := (fun x v => Host.reduceAdd x v reducesTo_S1024x1024_S1024_d1 h_S_) v0 cst
  let v2 : FVec F S1024x1 .f32 := broadcastInDim S1024x1 ![0] bcast_S1024_S1024x1_0 v1
  let v3 : FVec F S1024x1 .f32 := Host.sqrt v2
  v3

def fn_clip_1 {F : FTy → Type} [FloatOps F] (arg0 : FVec F S1024x1 .f32) (arg1 : FVec F S_ .f32) : FVec F S1024x1 .f32 :=
  let v0 : FVec F S_ .f32 := id arg1
  let v1 : FVec F S1024x1 .f32 := broadcastInDim S1024x1 ![] bcast_S_S1024x1 v0
  let v2 : FVec F S1024x1 .f32 := maximumf v1 arg0
  v2

def fn_where {F : FTy → Type} [FloatOps F] (arg0 : IVec S16384x1024 1) (arg1 : FVec F S1x1024 .f32) (arg2 : FVec F S_ .f32) : FVec F S16384x1024 .f32 :=
  let v0 : FVec F S_ .f32 := id arg2
  let v1 : FVec F S16384x1024 .f32 := broadcastInDim S16384x1024 ![0, 1] bcast_S1x1024_S16384x1024_0_1 arg1
  let v2 : FVec F S16384x1024 .f32 := broadcastInDim S16384x1024 ![] bcast_S_S16384x1024 v0
  let v3 : FVec F S16384x1024 .f32 := select arg0 v1 v2
  v3

def fn_part1 {F : FTy → Type} [FloatOps F] (main_v10 : FVec F S16384x1024 .f32) (main_v17 : FVec F S1024 .f32) (main_v18 : FVec F S1024 .f32) : IVec S16384 1 :=
  let main_v19 : FVec F S1024 .f32 := Host.divf main_v18 main_v17
  let main_v20 : FVec F S1x1024 .f32 := broadcastInDim S1x1024 ![1] bcast_S1024_S1x1024_1 main_v19
  let main_cst_4 : FVec F S_ .f32 := constant S_ .f32 0xFF800000#32
  let main_v21 : FVec F S16384 .f32 := (fun x v => Host.reduce FloatOps.maximumf x v reducesTo_S16384x1024_S16384_d1 h_S_) main_v10 main_cst_4
  let main_v22 : FVec F S16384x1 .f32 := broadcastInDim S16384x1 ![0] bcast_S16384_S16384x1_0 main_v21
  let main_v23 : FVec F S16384x1024 .f32 := broadcastInDim S16384x1024 ![0, 1] bcast_S16384x1_S16384x1024_0_1 main_v22
  let main_v24 : IVec S16384x1024 1 := cmpf .oge main_v10 main_v23
  let main_cst_5 : FVec F S_ .f32 := constant S_ .f32 0xFF800000#32
  let main_v25 : FVec F S16384x1024 .f32 := fn_where (F := F) main_v24 main_v20 main_cst_5
  let main_cst_6 : FVec F S_ .f32 := constant S_ .f32 0xFF800000#32
  let main_v26 : FVec F S16384 .f32 := (fun x v => Host.reduce FloatOps.maximumf x v reducesTo_S16384x1024_S16384_d1 h_S_) main_v25 main_cst_6
  let main_cst_7 : FVec F S_ .f32 := constant S_ .f32 0x7F800000#32
  let main_v27 : FVec F S16384x1024 .f32 := fn_where (F := F) main_v24 main_v20 main_cst_7
  let main_cst_8 : FVec F S_ .f32 := constant S_ .f32 0x7F800000#32
  let main_v28 : FVec F S16384 .f32 := (fun x v => Host.reduce FloatOps.minimumf x v reducesTo_S16384x1024_S16384_d1 h_S_) main_v27 main_cst_8
  let main_v29 : IVec S16384 1 := cmpf .ole main_v26 main_v28
  main_v29

def fn {F : FTy → Type} [FloatOps F] (main_arg0 : FVec F S8x2048x1024 .f32) (main_arg1 : FVec F S512x1024 .f32) (main_arg2 : FVec F S1024x1024 .f32) (main_arg3 : FVec F S1024x1024 .f32) (main_arg4 : FVec F S1024 .f32) : IVec S16384 1 :=
  let main_v0 : FVec F S16384x1024 .f32 := shapeCast S16384x1024 main_arg0 shapeCasts_S8x2048x1024_S16384x1024
  let main_v1 : FVec F S16384x1 .f32 := fn_norm (F := F) main_v0
  let main_cst : FVec F S_ .f32 := constant S_ .f32 0x322BCC77#32
  let main_v2 : FVec F S16384x1 .f32 := fn_clip (F := F) main_v1 main_cst
  let main_v3 : FVec F S16384x1024 .f32 := broadcastInDim S16384x1024 ![0, 1] bcast_S16384x1_S16384x1024_0_1 main_v2
  let main_v4 : FVec F S16384x1024 .f32 := Host.divf main_v0 main_v3
  let main_v5 : FVec F S1024x1 .f32 := fn_norm_0 (F := F) main_arg2
  let main_cst_0 : FVec F S_ .f32 := constant S_ .f32 0x322BCC77#32
  let main_v6 : FVec F S1024x1 .f32 := fn_clip_1 (F := F) main_v5 main_cst_0
  let main_v7 : FVec F S1024x1024 .f32 := broadcastInDim S1024x1024 ![0, 1] bcast_S1024x1_S1024x1024_0_1 main_v6
  let main_v8 : FVec F S1024x1024 .f32 := Host.divf main_arg2 main_v7
  let main_v9 : FVec F S1024x1024 .f32 := (transpose S1024x1024 [1, 0] · transposes_S1024x1024_S1024x1024_1_0) main_v8
  let main_v10 : FVec F S16384x1024 .f32 := (fun l r => Host.dotGeneral dot_S16384x1024_S1024x1024_S16384x1024_1_0_0_1_n_n none l r) main_v4 main_v9
  let main_v11 : FVec F S1024x512 .f32 := (transpose S1024x512 [1, 0] · transposes_S512x1024_S1024x512_1_0) main_arg1
  let main_v12 : FVec F S1024x512 .f32 := (fun l r => Host.dotGeneral dot_S1024x1024_S1024x512_S1024x512_1_0_0_1_n_n none l r) main_arg2 main_v11
  let main_cst_1 : FVec F S_ .f32 := constant S_ .f32 0xFF800000#32
  let main_v13 : FVec F S1024 .f32 := (fun x v => Host.reduce FloatOps.maximumf x v reducesTo_S1024x512_S1024_d1 h_S_) main_v12 main_cst_1
  let main_v14 : FVec F S1024 .f32 := Host.negf main_v13
  let main_v15 : FVec F S1024 .f32 := Host.exp main_v14
  let main_cst_2 : FVec F S_ .f32 := constant S_ .f32 0x3F800000#32
  let main_v16 : FVec F S1024 .f32 := broadcastInDim S1024 ![] bcast_S_S1024 main_cst_2
  let main_v17 : FVec F S1024 .f32 := addf main_v16 main_v15
  let main_cst_3 : FVec F S_ .f32 := constant S_ .f32 0x3F800000#32
  let main_v18 : FVec F S1024 .f32 := broadcastInDim S1024 ![] bcast_S_S1024 main_cst_3
  fn_part1 (F := F) main_v10 main_v17 main_v18
-- ==== Kernel.lean ====
abbrev S8x2048x1024 : Shape := ⟨3, ![8, 2048, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S2048x1024 : Shape := ⟨2, ![2048, 1024]⟩
abbrev S8x256x1024 : Shape := ⟨3, ![8, 256, 1024]⟩
abbrev S256x1024 : Shape := ⟨2, ![256, 1024]⟩
abbrev S1024x1 : Shape := ⟨2, ![1024, 1]⟩
abbrev S1024x512 : Shape := ⟨2, ![1024, 512]⟩
abbrev S1x256x1024 : Shape := ⟨3, ![1, 256, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S2048x1024, .f32⟩
  | .local _ .vmem, ⟨0, _⟩ => ⟨S1024x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S8x256x1024, .f32⟩
  | .local _ .vmem, ⟨5, _⟩ => ⟨S8x256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2048x1024 : Shape := ⟨3, ![8, 2048, 1024]⟩
abbrev S512x1024 : Shape := ⟨2, ![512, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024x1 : Shape := ⟨2, ![1024, 1]⟩
abbrev S1 : Shape := ⟨1, ![1]⟩
abbrev S1x1 : Shape := ⟨2, ![1, 1]⟩
abbrev S1024x512 : Shape := ⟨2, ![1024, 512]⟩
abbrev S16384x512 : Shape := ⟨2, ![16384, 512]⟩
abbrev S1x1024 : Shape := ⟨2, ![1, 1024]⟩
abbrev S2048x1024 : Shape := ⟨2, ![2048, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024x1024, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S16384x1024, .f32⟩
  | .hbm, ⟨30, _⟩ => ⟨S16384x1024, .i32⟩
  | .hbm, ⟨31, _⟩ => ⟨S_, .f32⟩
  | .hbm, ⟨32, _⟩ => ⟨S_, .i32⟩
  | .hbm, ⟨33, _⟩ => ⟨S16384, .f32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S1x1, .i32⟩
  | .hbm, ⟨48, _⟩ => ⟨S16384x1, .i32⟩
  | .hbm, ⟨49, _⟩ => ⟨S16384x1, .i1⟩
  | .hbm, ⟨50, _⟩ => ⟨S16384x1, .i1⟩
  | .hbm, ⟨51, _⟩ => ⟨S_, .i1⟩
  | .hbm, ⟨52, _⟩ => ⟨S16384, .i1⟩
  | .hbm, ⟨53, _⟩ => ⟨S16384x1024, .f32⟩
  | .hbm, ⟨54, _⟩ => ⟨S16384x1024, .i1⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S1024x512, .f32⟩
  | .hbm, ⟨59, _⟩ => ⟨S16384x512, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1, .f32⟩
  | .hbm, ⟨71, _⟩ => ⟨S1024x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S8x2048x1024, .f32⟩
  | .hbm, ⟨88, _⟩ => ⟨S_, .f32⟩
  | .hbm, ⟨89, _⟩ => ⟨S2048x1024, .f32⟩
  | .hbm, ⟨90, _⟩ => ⟨S_, .f32⟩
  | .hbm, ⟨91, _⟩ => ⟨S2048x1024, .f32⟩
  | .hbm, ⟨92, _⟩ => ⟨S2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call2_v0 : Ref sig .tc := ⟨.hbm, 17, rfl⟩
abbrev main_call2_cst : Ref sig .tc := ⟨.hbm, 18, rfl⟩
abbrev main_call2_v1 : Ref sig .tc := ⟨.hbm, 19, rfl⟩
abbrev main_call2_v2 : Ref sig .tc := ⟨.hbm, 20, rfl⟩
abbrev main_v5 : Ref sig .tc := ⟨.hbm, 21, rfl⟩
abbrev main_cst_0 : Ref sig .tc := ⟨.hbm, 22, rfl⟩
abbrev main_call3_v0 : Ref sig .tc := ⟨.hbm, 23, rfl⟩
abbrev main_call3_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call4_v0 : Ref sig .tc := ⟨.hbm, 30, rfl⟩
abbrev main_call4_cst : Ref sig .tc := ⟨.hbm, 31, rfl⟩
abbrev main_call4_c : Ref sig .tc := ⟨.hbm, 32, rfl⟩
abbrev main_call4_v1_0 : Ref sig .tc := ⟨.hbm, 33, rfl⟩
abbrev main_v11 : Ref sig .tc := ⟨.hbm, 34, rfl⟩
abbrev main_call5_c : Ref sig .tc := ⟨.hbm, 35, rfl⟩
abbrev main_call5_v0 : Ref sig .tc := ⟨.hbm, 36, rfl⟩
abbrev main_call5_v1 : Ref sig .tc := ⟨.hbm, 37, rfl⟩
abbrev main_call5_c_0 : Ref sig .tc := ⟨.hbm, 38, rfl⟩
abbrev main_call5_v2 : Ref sig .tc := ⟨.hbm, 39, rfl⟩
abbrev main_call5_v3 : Ref sig .tc := ⟨.hbm, 40, rfl⟩
abbrev main_call5_v4 : Ref sig .tc := ⟨.hbm, 41, rfl⟩
abbrev main_call5_v5 : Ref sig .tc := ⟨.hbm, 42, rfl⟩
abbrev main_call5_c_1 : Ref sig .tc := ⟨.hbm, 43, rfl⟩
abbrev main_call5_c_2 : Ref sig .tc := ⟨.hbm, 44, rfl⟩
abbrev main_call5_v6 : Ref sig .tc := ⟨.hbm, 45, rfl⟩
abbrev main_call5_v7 : Ref sig .tc := ⟨.hbm, 46, rfl⟩
abbrev main_call5_v8 : Ref sig .tc := ⟨.hbm, 47, rfl⟩
abbrev main_call5_v9 : Ref sig .tc := ⟨.hbm, 48, rfl⟩
abbrev main_call5_v10 : Ref sig .tc := ⟨.hbm, 49, rfl⟩
abbrev main_call5_v11 : Ref sig .tc := ⟨.hbm, 50, rfl⟩
abbrev main_call5_c_3 : Ref sig .tc := ⟨.hbm, 51, rfl⟩
abbrev main_call5_v12 : Ref sig .tc := ⟨.hbm, 52, rfl⟩
abbrev main_call5_v13 : Ref sig .tc := ⟨.hbm, 53, rfl⟩
abbrev main_call5_v14 : Ref sig .tc := ⟨.hbm, 54, rfl⟩
abbrev main_call5_cst : Ref sig .tc := ⟨.hbm, 55, rfl⟩
abbrev main_call5_v15 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst_1 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_cst_2 : Ref sig .tc := ⟨.hbm, 64, rfl⟩
abbrev main_v18 : Ref sig .tc := ⟨.hbm, 65, rfl⟩
abbrev main_v19 : Ref sig .tc := ⟨.hbm, 66, rfl⟩
abbrev main_cst_3 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_4 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_5 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_6 : Ref sig .tc := ⟨.hbm, 88, rfl⟩
abbrev main_v38 : Ref sig .tc := ⟨.hbm, 89, rfl⟩
abbrev main_cst_7 : Ref sig .tc := ⟨.hbm, 90, rfl⟩
abbrev main_v39 : Ref sig .tc := ⟨.hbm, 91, rfl⟩
abbrev main_v40 : Ref sig .tc := ⟨.hbm, 92, rfl⟩

abbrev nD : Nat := 1
abbrev τ : Topo := Topo.v7x

variable {F : FTy → Type} [FloatOps F]
-- ==== Proof.Spec.lean ====
/- The mathematics of one row: cosine similarity with a list of contexts, its maximisers, and the activation that the
   nearest context has. A row is compared with the contexts either after its own normalisation or before it; the
   contexts are normalised in both. -/
module

public import Idealize.ShloMosaic.PureOps.Ideal.Laws

@[expose] public section

noncomputable section

open Idealize.ShloMosaic

namespace Cert.Spec

/-- The least length that a row is divided by. -/
def clipW : EReal := Ideal.ofBits .f32 0x322BCC77#32

/-- A row's clipped length. -/
def len {n : Nat} (v : Fin n → EReal) : EReal := max clipW (Ideal.sqrt (∑ k, v k * v k))

/-- The cosine similarity of a row with context `j`, both normalised. -/
def simN {n m : Nat} (x : Fin n → EReal) (cs : Fin m → Fin n → EReal) (j : Fin m) : EReal :=
  ∑ k, Ideal.div (x k) (len x) * Ideal.div (cs j k) (len (cs j))

/-- The product of a row as it is with the normalised context `j`. -/
def simU {n m : Nat} (x : Fin n → EReal) (cs : Fin m → Fin n → EReal) (j : Fin m) : EReal :=
  ∑ k, x k * Ideal.div (cs j k) (len (cs j))

/-- The greatest value of a family. -/
def top {m : Nat} (s : Fin m → EReal) : EReal := Finset.univ.fold max ⊥ s

/-- A context's activation: the logistic of its greatest product with a segment. -/
def act {n p : Nat} (md : Fin p → Fin n → EReal) (c : Fin n → EReal) : EReal :=
  Ideal.logistic (top fun s => ∑ k, c k * md s k)

theorem le_greatest {m : Nat} (s : Fin m → EReal) (j : Fin m) : s j ≤ top s :=
  (Finset.le_fold_max _).2 (Or.inr ⟨j, Finset.mem_univ j, le_rfl⟩)

theorem top_le {m : Nat} {s : Fin m → EReal} {b : EReal} : top s ≤ b ↔ ∀ j, s j ≤ b := by
  unfold top
  rw [Finset.fold_max_le]
  simp

/-- A nonempty family attains its greatest value. -/
theorem exists_top {m : Nat} (hm : 0 < m) (s : Fin m → EReal) : ∃ j, top s ≤ s j := by
  have : Nonempty (Fin m) := ⟨⟨0, hm⟩⟩
  obtain ⟨j, hj⟩ := Finite.exists_max s
  exact ⟨j, top_le.2 hj⟩

theorem clipW_real : ∃ e : ℝ, 0 < e ∧ clipW = (e : EReal) := by
  refine ⟨(11258999 : ℝ) * (2 : ℝ) ^ (-50 : ℤ), by positivity, ?_⟩
  unfold clipW
  simp [Ideal.ofBits, Ideal.ieee, -EReal.coe_mul]

theorem sq_nonneg' (y : EReal) : 0 ≤ y * y := by
  rcases le_total 0 y with h | h
  · exact mul_nonneg h h
  · exact EReal.mul_nonneg_iff.2 (Or.inr ⟨h, h⟩)

theorem coe_sum {n : Nat} (f : Fin n → ℝ) : ((∑ k, f k : ℝ) : EReal) = ∑ k, (f k : EReal) :=
  map_sum (⟨⟨fun r : ℝ => (r : EReal), EReal.coe_zero⟩, EReal.coe_add⟩ : ℝ →+ EReal) f Finset.univ

/-- Either a row's clipped length is infinite, or the row is real and so is its clipped length, which is positive. -/
theorem len_cases {n : Nat} (v : Fin n → EReal) :
    len v = ⊤ ∨ ∃ (u : Fin n → ℝ) (l : ℝ), (∀ k, v k = (u k : EReal)) ∧ 0 < l ∧ len v = (l : EReal) := by
  obtain ⟨e, he, hclip⟩ := clipW_real
  by_cases hS : ∑ k, v k * v k = ⊤
  · left
    unfold len
    rw [hS]
    exact max_eq_right le_top
  · right
    have hfin : ∀ k, ∃ r : ℝ, v k = (r : EReal) := fun k => by
      have hk : v k * v k ≠ ⊤ := fun h => hS (top_unique (h ▸ Finset.single_le_sum
        (f := fun k => v k * v k) (fun i _ => sq_nonneg' (v i)) (Finset.mem_univ k)))
      generalize v k = y at hk
      induction y with
      | bot => exact absurd EReal.bot_mul_bot hk
      | top => exact absurd EReal.top_mul_top hk
      | coe r => exact ⟨r, rfl⟩
    choose u hu using hfin
    have hs : ∑ k, v k * v k = ((∑ k, u k * u k : ℝ) : EReal) := by
      rw [coe_sum]
      exact Finset.sum_congr rfl fun k _ => by rw [hu k, EReal.coe_mul]
    have h0 : 0 ≤ ∑ k, u k * u k := Finset.sum_nonneg fun k _ => mul_self_nonneg (u k)
    refine ⟨u, max e (Real.sqrt (∑ k, u k * u k)), hu, lt_max_of_lt_left he, ?_⟩
    unfold len
    rw [hs, hclip]
    show max (e : EReal) (if _ then _ else _) = _
    rw [if_neg (not_lt.2 h0)]
    exact (Monotone.map_max (f := fun r : ℝ => (r : EReal)) EReal.coe_strictMono.monotone).symm.trans (by rw [max_comm])

/-- An entry of a row over the row's clipped length is always real. -/
theorem div_len_real {n : Nat} (v : Fin n → EReal) (k : Fin n) : ∃ q : ℝ, Ideal.div (v k) (len v) = (q : EReal) := by
  rcases len_cases v with h | ⟨u, l, hu, hl, h⟩
  · refine ⟨0, ?_⟩
    rw [h]
    unfold Ideal.div
    rw [if_neg EReal.top_ne_zero, EReal.inv_top, mul_zero]
    rfl
  · refine ⟨u k * l⁻¹, ?_⟩
    rw [h, hu k]
    unfold Ideal.div
    rw [if_neg (by exact_mod_cast hl.ne'), ← EReal.coe_inv, ← EReal.coe_mul]

/-- A context nearest to a row as it is, is nearest to the row normalised too. -/
theorem nearest_of_nearest {n m : Nat} (x : Fin n → EReal) (cs : Fin m → Fin n → EReal) (j : Fin m)
    (h : top (simU x cs) ≤ simU x cs j) : top (simN x cs) ≤ simN x cs j := by
  rw [top_le] at h ⊢
  intro i
  rcases len_cases x with hx | ⟨u, l, hu, hl, hx⟩
  · have hz : ∀ i, simN x cs i = 0 := fun i => by
      unfold simN
      refine Finset.sum_eq_zero fun k _ => ?_
      rw [hx]
      unfold Ideal.div
      rw [if_neg EReal.top_ne_zero, EReal.inv_top, mul_zero, zero_mul]
    rw [hz, hz]
  · choose q hq using fun i k => div_len_real (cs i) k
    have hU : ∀ i, simU x cs i = ((∑ k, u k * q i k : ℝ) : EReal) := fun i => by
      unfold simU
      rw [coe_sum]
      exact Finset.sum_congr rfl fun k _ => by rw [hu k, hq i k, EReal.coe_mul]
    have hN : ∀ i, simN x cs i = ((l⁻¹ * ∑ k, u k * q i k : ℝ) : EReal) := fun i => by
      unfold simN
      rw [Finset.mul_sum, coe_sum]
      refine Finset.sum_congr rfl fun k _ => ?_
      rw [hx, hu k, hq i k]
      unfold Ideal.div
      rw [if_neg (by exact_mod_cast hl.ne'), ← EReal.coe_inv, ← EReal.coe_mul, ← EReal.coe_mul]
      congr 1
      ring
    have hi := h i
    rw [hU, hU, EReal.coe_le_coe_iff] at hi
    rw [hN, hN, EReal.coe_le_coe_iff]
    exact mul_le_mul_of_nonneg_left hi (inv_nonneg.2 hl.le)

theorem exp_nonneg (x : EReal) : 0 ≤ Ideal.exp x := by
  induction x with
  | bot => exact le_rfl
  | top => exact le_top
  | coe r => exact EReal.coe_nonneg.2 (Real.exp_pos r).le

/-- An activation is never negative. -/
theorem act_nonneg {n p : Nat} (md : Fin p → Fin n → EReal) (c : Fin n → EReal) : 0 ≤ act md c := by
  unfold act Ideal.logistic Ideal.div
  have h := exp_nonneg (-top fun s => ∑ k, c k * md s k)
  have h1 : 0 < 1 + Ideal.exp (-top fun s => ∑ k, c k * md s k) :=
    lt_of_lt_of_le zero_lt_one (le_add_of_nonneg_right h)
  rw [if_neg h1.ne', one_mul]
  exact EReal.inv_nonneg_of_nonneg h1.le

/-- The contexts that share a row's greatest cosine similarity have one activation. -/
def Agree {m : Nat} (s a : Fin m → EReal) : Prop :=
  (Finset.univ.fold max ⊥ fun j => if top s ≤ s j then a j else ⊥)
    ≤ Finset.univ.fold min ⊤ fun j => if top s ≤ s j then a j else ⊤

theorem Agree.eq {m : Nat} {s a : Fin m → EReal} (h : Agree s a) {i j : Fin m} (hi : top s ≤ s i) (hj : top s ≤ s j) :
    a i = a j := by
  have key : ∀ i j, top s ≤ s i → top s ≤ s j → a i ≤ a j := fun i j hi hj => by
    have h1 : a i ≤ Finset.univ.fold max ⊥ fun j => if top s ≤ s j then a j else ⊥ :=
      (Finset.le_fold_max _).2 (Or.inr ⟨i, Finset.mem_univ i, by rw [if_pos hi]⟩)
    have h2 : (Finset.univ.fold min ⊤ fun j => if top s ≤ s j then a j else ⊤) ≤ a j :=
      (Finset.fold_min_le _).2 (Or.inr ⟨j, Finset.mem_univ j, by rw [if_pos hj]⟩)
    exact h1.trans (h.trans h2)
  exact le_antisymm (key i j hi hj) (key j i hj hi)

/-- The greatest activation among the contexts nearest to a row as it is, with zero at the others, is the
    activation of any context nearest to the row normalised, when those have one activation. -/
theorem pick_eq {n m : Nat} (x : Fin n → EReal) (cs : Fin m → Fin n → EReal) (a : Fin m → EReal) (ha : ∀ j, 0 ≤ a j)
    (h : Agree (simN x cs) a) (i : Fin m) (hi : ∀ j, simN x cs j ≤ simN x cs i) :
    (top fun j => if top (simU x cs) ≤ simU x cs j then a j else 0) = a i := by
  have hit : top (simN x cs) ≤ simN x cs i := top_le.2 hi
  refine le_antisymm (top_le.2 fun j => ?_) ?_
  · split
    · next hj => exact (h.eq (nearest_of_nearest x cs j hj) hit).le
    · exact ha i
  · obtain ⟨j, hj⟩ := exists_top (lt_of_le_of_lt (Nat.zero_le _) i.isLt) (simU x cs)
    rw [h.eq hit (nearest_of_nearest x cs j hj)]
    refine le_trans ?_ (le_greatest _ j)
    rw [if_pos hj]

end Cert.Spec

end
-- ==== Proof.Block.lean ====
/- What one block of the kernel computes, at the extended reals: the eight batch entries' contributions to an output
   element, added in order. -/
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Block

open Cert.KernelIdeal Cert.KernelIdeal.Gen

/-- The product of a row with a stored context. -/
def sim (x : Fin 1024 → EReal) (cn : Fin 1024 → Fin 1024 → EReal) (j : Fin 1024) : EReal := ∑ k, x k * cn j k

/-- The linear layer's output `c` on a row. -/
def hid (x : Fin 1024 → EReal) (wb : Fin 1024 → Fin 1024 → EReal) (b : Fin 1024 → EReal) (c : Fin 1024) : EReal :=
  ∑ k, x k * wb c k + b c

/-- The exact `gelu`, by the error function. -/
def gate (h : EReal) : EReal :=
  Ideal.ofBits .f32 0x3F000000#32 * h * (1 + Ideal.erf (h * Ideal.ofBits .f32 0x3F3504F3#32))

/-- The greatest activation among the contexts whose product is the greatest, zero standing for the others. -/
def pick (s t : Fin 1024 → EReal) : EReal := Spec.top fun j => if Spec.top s ≤ s j then t j else 0

/-- One row's contribution to output `c`. -/
def contrib (cn wb : Fin 1024 → Fin 1024 → EReal) (b t : Fin 1024 → EReal) (c : Fin 1024) (x : Fin 1024 → EReal) : EReal :=
  gate (hid x wb b c) * (pick (sim x cn) t * Ideal.ofBits .f32 0x3E000000#32)

theorem bot16 : Ideal.ofBits .bf16 0xFF80#16 = ⊥ := by simp [Ideal.ofBits, Ideal.ieee]
theorem bot32 : Ideal.ofBits .f32 0xFF800000#32 = ⊥ := by simp [Ideal.ofBits, Ideal.ieee]

section Payloads

variable (g : FVec Ideal S256x1024 .f32) (a : FVec Ideal S256 .f32) (x : Vec Ideal S1x256x1024 .f32)
  (cn wb : Vec Ideal S1024x1024 .bf16) (b : Vec Ideal S1x1024 .f32) (t : Vec Ideal S1x1024 .bf16)
  (r : Fin 256) (c : Fin 1024)

/-- A row's contribution, on the vectors that the block holds. -/
abbrev contribV : EReal :=
  contrib (fun j k => cn (ix2 j k)) (fun j k => wb (ix2 j k)) (fun c => b (ix2 0 c)) (fun j => t (ix2 0 j)) c
    (fun k => x (ix3 0 r k))

theorem pay6_at : k0_pay6 (F := Ideal) x wb b (ix2 r c)
    = gate (hid (fun k => x (ix3 0 r k)) (fun j k => wb (ix2 j k)) (fun c => b (ix2 0 c)) c) := by
  pointwise [k0_pay6, k0_pay5]
  rfl

theorem pay7_at : k0_pay7 (F := Ideal) x cn t (ix1 r)
    = pick (sim (fun k => x (ix3 0 r k)) (fun j k => cn (ix2 j k))) (fun j => t (ix2 0 j)) * Ideal.ofBits .f32 0x3E000000#32 := by
  pointwise [k0_pay7, k0_pay5]
  rw [bot16]
  rfl

theorem pay8_at : k0_pay8 (F := Ideal) g a x cn wb b t (ix2 r c) = g (ix2 r c) * a (ix1 r) + contribV x cn wb b t r c := by
  pointwise [k0_pay8]
  rw [bot16]
  rfl

theorem pay9_at : k0_pay9 (F := Ideal) g x cn wb b t (ix2 r c) = g (ix2 r c) + contribV x cn wb b t r c := by
  pointwise [k0_pay9]
  rw [bot16]
  rfl

theorem pay10_at : k0_pay10 (F := Ideal) g x cn wb b t (ix2 r c) = g (ix2 r c) + contribV x cn wb b t r c := by
  pointwise [k0_pay10]
  rw [bot16]
  rfl

theorem pay12_at : k0_pay12 (F := Ideal) g (k0_pay11 x) cn wb b t (ix2 r c) = g (ix2 r c) + contribV x cn wb b t r c := by
  pointwise [k0_pay12, k0_pay11]
  rw [bot16]
  rfl

theorem pay14_at : k0_pay14 (F := Ideal) g (k0_pay13 x) cn wb b t (ix2 r c) = g (ix2 r c) + contribV x cn wb b t r c := by
  pointwise [k0_pay14, k0_pay13]
  rw [bot16]
  rfl

theorem pay17_at : k0_pay17 (F := Ideal) g (k0_pay15 x) (k0_pay16 x cn) wb b t (ix2 r c)
    = g (ix2 r c) + contribV x cn wb b t r c := by
  pointwise [k0_pay17, k0_pay15, k0_pay16]
  rw [bot16]
  rfl

theorem pay1_at : k0_pay1 (F := Ideal) g (k0_pay18 x) (k0_pay19 x cn) wb b t (ix2 r c)
    = g (ix2 r c) + contribV x cn wb b t r c := by
  pointwise [k0_pay1, k0_pay18, k0_pay19]
  rw [bot16]
  rfl

end Payloads

/-- The stored contexts: each divided by its clipped length. -/
theorem pay2_at (v : Vec Ideal S1024x1024 .f32) (j k : Fin 1024) :
    k0_pay2 (F := Ideal) v (ix2 j k) = Ideal.div (v (ix2 j k)) (Spec.len fun k => v (ix2 j k)) := by
  pointwise [k0_pay2]
  unfold Spec.len
  rw [max_comm]
  rfl

/-- The stored weights are the weights. -/
theorem pay3_at (v : Vec Ideal S1024x1024 .f32) (j k : Fin 1024) : k0_pay3 (F := Ideal) v (ix2 j k) = v (ix2 j k) := by
  pointwise [k0_pay3]

/-- The stored activations. -/
theorem pay4_at (v : Vec Ideal S1024x1024 .f32) (w : Vec Ideal S512x1024 .f32) (j : Fin 1024) :
    k0_pay4 (F := Ideal) v w (ix2 0 j) = Spec.act (fun s k => w (ix2 s k)) (fun k => v (ix2 j k)) := by
  pointwise [k0_pay4]
  rw [bot32]
  rfl

/-- A load of one batch entry of a block of tokens. -/
theorem ld_at (x : Vec Ideal S8x256x1024 .f32) (n : Nat) (hn : n < 8)
    (h : ∀ a, (![n, 0, 0] : Fin 3 → Nat) a + (![1, 256, 1024] : Fin 3 → Nat) a ≤ S8x256x1024.size a) (r : Fin 256) (k : Fin 1024) :
    View.ld x (Rect.unit ![n, 0, 0] ![1, 256, 1024] h) (ix3 0 r k) = x (ix3 ⟨n, hn⟩ r k) := by
  refine congrArg x (funext fun a => Fin.ext ?_)
  match a with
  | ⟨0, _⟩ => simp [Rect.unit, ix3]
  | ⟨1, _⟩ => simp [Rect.unit, ix3]
  | ⟨2, _⟩ => simp [Rect.unit, ix3]

end Cert.Block

end
-- ==== Proof.Blocks.lean ====
/- What the kernel's staging blocks and its stored tables hold at each point of the grid, in terms of the arguments. -/
module

public import proofs.«01_k».proof.Proof.Block
public import Idealize.ShloMosaic.Lib.Claim

@[expose] public section

set_option maxRecDepth 16384

noncomputable section

open Idealize.ShloMosaic Idealize.ShloMosaic.TcCoe Idealize.SL.Sem

namespace Cert.Blocks

open Cert.KernelIdeal Cert.KernelIdeal.Gen

variable (m : (ℓ : Loc nD τ sig) → Buf (Elt Ideal) ℓ) (c : Dev nD)

/-- Every window's block index at a point, decided over the grid. -/
theorem idx : ∀ t : Fin cfg0.N, win0_0.index t = ![0, 0] ∧ win0_1.index t = ![0, 0] ∧ win0_2.index t = ![0, 0]
    ∧ win0_3.index t = ![0, 0] ∧ win0_4.index t = ![0, t.val, 0] :=
  (by decide +kernel : ∀ t : Fin grid0.N, _)

/-- The block of contexts is the whole of the contexts. -/
theorem iblk0 (t : Fin cfg0.N) : iblk m c 0 t = m ((c : Thread nD τ).loc main_arg2) := by
  blk_ext! [iblk, V, idx t]

/-- The block of segments is the whole of the segments. -/
theorem iblk1 (t : Fin cfg0.N) : iblk m c 1 t = m ((c : Thread nD τ).loc main_arg1) := by
  blk_ext! [iblk, V, idx t]

/-- The block of weights is the whole of the weights. -/
theorem iblk2 (t : Fin cfg0.N) : iblk m c 2 t = m ((c : Thread nD τ).loc main_arg3) := by
  blk_ext! [iblk, V, idx t]

/-- The block of biases is the bias, as a row. -/
theorem iblk3 (t : Fin cfg0.N) (j : Fin 1024) : (iblk m c 3 t : Vec Ideal S1x1024 .f32) (ix2 0 j)
    = (m ((c : Thread nD τ).loc main_arg4) : Vec Ideal S1024 .f32) (ix1 j) := by
  have h : iblk m c 3 t = V m c main_v0 := by blk_ext! [iblk, idx t]
  rw [h]
  entry_read
  pointwise

/-- Entry `r` of the tokens' block at point `t` is token `256 * t + r`. -/
theorem iblk4 (t : Fin cfg0.N) (n : Fin 8) (r : Fin 256) (k : Fin 1024) (h : t.val * 256 + r.val < 2048) :
    (iblk m c 4 t : Vec Ideal S8x256x1024 .f32) (ix3 n r k)
      = (m ((c : Thread nD τ).loc main_arg0) : Vec Ideal S8x2048x1024 .f32) (ix3 n ⟨t.val * 256 + r.val, h⟩ k) := by
  blk_ext [iblk, V, idx t]

end Cert.Blocks

end
-- ==== Proof.Points.lean ====
/- What the kernel leaves at each point of its grid, and what the output array ends holding. -/
module

public import proofs.«01_k».proof.Proof.Blocks
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.Points

open Cert.KernelIdeal Cert.KernelIdeal.Gen

section Chain

variable (x4 : Vec Ideal S8x256x1024 .f32) (cn wb : Vec Ideal S1024x1024 .bf16) (b : Vec Ideal S1x1024 .f32)
  (t : Vec Ideal S1x1024 .bf16)

/-- Row `n` of the tokens' block, as one load reads it. -/
abbrev ld (n : Nat) (h : ∀ a : Fin 3, (![n, 0, 0] : Fin 3 → Nat) a + (![1, 256, 1024] : Fin 3 → Nat) a ≤ S8x256x1024.size a) : Vec Ideal S1x256x1024 .f32 :=
  View.ld x4 (Rect.unit ![n, 0, 0] ![1, 256, 1024] h)

/-- What the eight rows of a block leave together: each row's term is added onto the sum of those before it. -/
def chain : FVec Ideal S256x1024 .f32 :=
  let s0 := k0_pay8 (k0_pay6 (ld x4 0 inb_S8x256x1024_S1x256x1024_0_0_0) wb b) (k0_pay7 (ld x4 0 inb_S8x256x1024_S1x256x1024_0_0_0) cn t) (ld x4 1 inb_S8x256x1024_S1x256x1024_1_0_0) cn wb b t
  let s1 := k0_pay9 s0 (ld x4 2 inb_S8x256x1024_S1x256x1024_2_0_0) cn wb b t
  let s2 := k0_pay10 s1 (ld x4 3 inb_S8x256x1024_S1x256x1024_3_0_0) cn wb b t
  let s3 := k0_pay12 s2 (k0_pay11 (ld x4 4 inb_S8x256x1024_S1x256x1024_4_0_0)) cn wb b t
  let s4 := k0_pay14 s3 (k0_pay13 (ld x4 5 inb_S8x256x1024_S1x256x1024_5_0_0)) cn wb b t
  let s5 := k0_pay17 s4 (k0_pay15 (ld x4 6 inb_S8x256x1024_S1x256x1024_6_0_0)) (k0_pay16 (ld x4 6 inb_S8x256x1024_S1x256x1024_6_0_0) cn) wb b t
  k0_pay1 s5 (k0_pay18 (ld x4 7 inb_S8x256x1024_S1x256x1024_7_0_0)) (k0_pay19 (ld x4 7 inb_S8x256x1024_S1x256x1024_7_0_0) cn) wb b t

/-- Each entry of what a block leaves is the sum of its eight rows' contributions. -/
theorem chain_at (r : Fin 256) (c : Fin 1024) : chain x4 cn wb b t (ix2 r c)
    = ∑ n : Fin 8, Block.contrib (fun j k => cn (ix2 j k)) (fun j k => wb (ix2 j k)) (fun c => b (ix2 0 c))
        (fun j => t (ix2 0 j)) c (fun k => x4 (ix3 n r k)) := by
  unfold chain
  simp only [Block.pay1_at, Block.pay17_at, Block.pay14_at, Block.pay12_at, Block.pay10_at, Block.pay9_at,
    Block.pay8_at, Block.pay7_at, Block.pay6_at, Block.contribV, ld,
    Block.ld_at x4 0 (by decide), Block.ld_at x4 1 (by decide), Block.ld_at x4 2 (by decide), Block.ld_at x4 3 (by decide),
    Block.ld_at x4 4 (by decide), Block.ld_at x4 5 (by decide), Block.ld_at x4 6 (by decide), Block.ld_at x4 7 (by decide),
    Fin.sum_univ_eight]
  rfl

end Chain

section Point

variable (c : Dev nD) (i : grid0.Coords)
  (arg1 : Memref sig .tc .vmem S1024x1024 .f32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x256x1024 .f32) (harg5 : arg5.IsWhole) (arg6 : Memref sig .tc .vmem S256x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .bf16) (harg9 : arg9.IsWhole)
  (x0 : Vec Ideal S1024x1024 .f32) (x1 : Vec Ideal S512x1024 .f32) (x2 : Vec Ideal S1024x1024 .f32)
  (x3 : Vec Ideal S1x1024 .f32) (x4 : Vec Ideal S8x256x1024 .f32)
  (xs0 xs1 : Vec Ideal S1024x1024 .bf16) (xs2 : Vec Ideal S1x1024 .bf16)

/-- A point after the first leaves its block's sum, over the tables it finds stored. -/
theorem out_B (hc : ¬cond0_0 i) : out0_B_5 c i arg1 harg1 arg2 harg2 arg3 harg3 arg4 harg4 arg5 harg5 arg6 harg6 arg7 harg7 arg8 harg8 arg9 harg9 hc x0 x1 x2 x3 x4 xs0 xs1 xs2 = chain x4 xs0 xs1 x3 xs2 := by
  frame_out
  rfl

/-- The first point leaves its block's sum, over the tables it has just stored. -/
theorem out_A (hc : cond0_0 i) : out0_A_5 c i arg1 harg1 arg2 harg2 arg3 harg3 arg4 harg4 arg5 harg5 arg6 harg6 arg7 harg7 arg8 harg8 arg9 harg9 hc x0 x1 x2 x3 x4
    = chain x4 (k0_pay2 x0) (k0_pay3 x2) x3 (k0_pay4 x0 x1) := by
  frame_out
  rfl

/-- The first point stores the contexts over their lengths. -/
theorem sout_A_0 (hc : cond0_0 i) : sout0_A_0 c i arg1 harg1 arg2 harg2 arg3 harg3 arg4 harg4 arg5 harg5 arg6 harg6 arg7 harg7 arg8 harg8 arg9 harg9 hc x0 x1 x2 x3 x4 = k0_pay2 x0 := by
  frame_out

/-- The first point stores the weights. -/
theorem sout_A_1 (hc : cond0_0 i) : sout0_A_1 c i arg1 harg1 arg2 harg2 arg3 harg3 arg4 harg4 arg5 harg5 arg6 harg6 arg7 harg7 arg8 harg8 arg9 harg9 hc x0 x1 x2 x3 x4 = k0_pay3 x2 := by
  frame_out

/-- The first point stores the contexts' activations. -/
theorem sout_A_2 (hc : cond0_0 i) : sout0_A_2 c i arg1 harg1 arg2 harg2 arg3 harg3 arg4 harg4 arg5 harg5 arg6 harg6 arg7 harg7 arg8 harg8 arg9 harg9 hc x0 x1 x2 x3 x4 = k0_pay4 x0 x1 := by
  frame_out

end Point

variable (m : (ℓ : Loc nD τ sig) → Buf (Elt Ideal) ℓ) (c : Dev nD)

/-- The contexts. -/
abbrev W0 : Vec Ideal S1024x1024 .f32 := m ((c : Thread nD τ).loc main_arg2)
/-- The segments. -/
abbrev M0 : Vec Ideal S512x1024 .f32 := m ((c : Thread nD τ).loc main_arg1)
/-- The weights. -/
abbrev K0 : Vec Ideal S1024x1024 .f32 := m ((c : Thread nD τ).loc main_arg3)

/-- After every point, the block's own sum is in the output's block and the tables are those of the first point. -/
theorem state (n : Nat) (hn : n < cfg0.N) : outsAt0 m c n hn
    = (chain (iblk m c 4 ⟨n, hn⟩) (k0_pay2 (W0 m c)) (k0_pay3 (K0 m c)) (iblk m c 3 ⟨n, hn⟩) (k0_pay4 (W0 m c) (M0 m c)),
        k0_pay2 (W0 m c), k0_pay3 (K0 m c), k0_pay4 (W0 m c) (M0 m c)) := by
  induction n with
  | zero =>
    rw [outsAt0_A m c ⟨0, hn⟩ rfl, out_A, sout_A_0, sout_A_1, sout_A_2, Blocks.iblk0, Blocks.iblk1, Blocks.iblk2]
  | succ n ih =>
    have hN : cfg0.N = 8 := N_0
    have h0 : ¬(⟨n + 1, hn⟩ : Fin cfg0.N).val % 8 = 0 := by show ¬(n + 1) % 8 = 0; omega
    have ih' := ih (Nat.lt_of_succ_lt hn)
    refine (outsAt0_B m c ⟨n + 1, hn⟩ h0).trans ?_
    rw [out_B]
    unfold sout0_B_0 sout0_B_1 sout0_B_2
    show (chain _ (outsAt0 m c n _).2.1 (outsAt0 m c n _).2.2.1 _ (outsAt0 m c n _).2.2.2, (outsAt0 m c n _).2.1,
      (outsAt0 m c n _).2.2.1, (outsAt0 m c n _).2.2.2) = _
    rw [ih']

/-- What the output array ends holding at token `R` and output `C`: the sum, over the rows of the batch, of the row's
    contribution. -/
theorem G5_at (R : Fin 2048) (C : Fin 1024) : (Value.G5 m c : Vec Ideal S2048x1024 .f32) (ix2 R C)
    = ∑ n : Fin 8, Block.contrib
        (fun j k => Ideal.div (W0 m c (ix2 j k)) (Spec.len fun k => W0 m c (ix2 j k)))
        (fun j k => K0 m c (ix2 j k))
        (fun c' => (m ((c : Thread nD τ).loc main_arg4) : Vec Ideal S1024 .f32) (ix1 c'))
        (fun j => Spec.act (fun s k => M0 m c (ix2 s k)) (fun k => W0 m c (ix2 j k))) C
        (fun k => (m ((c : Thread nD τ).loc main_arg0) : Vec Ideal S8x2048x1024 .f32) (ix3 n R k)) := by
  have hN : cfg0.N = 8 := N_0
  have hR := R.isLt
  have hp : Value.pt5Of (ix2 R C) = R.val / 256 := by
    show 1 * (R.val / 256 - 0) + 1 * (C.val / 1024 - 0) = _
    have := C.isLt
    omega
  have hlt : Value.pt5Of (ix2 R C) < cfg0.N := by rw [hp, hN]; omega
  have hl : Value.loc5Of (ix2 R C) = ix2 ⟨R.val % 256, Nat.mod_lt _ (by decide)⟩ C := by
    funext a
    match a with
    | ⟨0, _⟩ => rfl
    | ⟨1, _⟩ => exact Fin.ext (Nat.mod_eq_of_lt C.isLt)
  unfold Value.G5
  rw [dif_pos hlt, ← Value.outsAt0_sweep m c _ hlt, state, hl]
  show chain _ _ _ _ _ _ = _
  rw [chain_at]
  have hx (n : Fin 8) (k : Fin 1024) :
      (iblk m c 4 ⟨Value.pt5Of (ix2 R C), hlt⟩ : Vec Ideal S8x256x1024 .f32) (ix3 n ⟨R.val % 256, Nat.mod_lt _ (by decide)⟩ k)
        = (m ((c : Thread nD τ).loc main_arg0) : Vec Ideal S8x2048x1024 .f32) (ix3 n R k) := by
    have e : Value.pt5Of (ix2 R C) * 256 + R.val % 256 = R.val := by rw [hp]; omega
    rw [Blocks.iblk4 m c ⟨_, hlt⟩ n ⟨R.val % 256, Nat.mod_lt _ (by decide)⟩ k (by show _ * 256 + R.val % 256 < 2048; rw [e]; exact hR)]
    congr 2
    exact Fin.ext e
  simp only [hx, Blocks.iblk3, Block.pay2_at, Block.pay3_at, Block.pay4_at]

end Cert.Points

end
-- ==== Proof.Row.lean ====
/- Reductions along the rows of a matrix, read at one row: a fold, and the arg-max. The extents are variables. -/
module

public import Idealize.ShloMosaic.Lib.Pointwise
public import Idealize.ShloMosaic.PureOps.Ideal.Laws

@[expose] public section

noncomputable section

open Idealize.ShloMosaic

namespace Cert.Row

/-- A reduction along the rows of a matrix by a commutative and associative operation, read at a row: the fold of
    the operation over that row's entries. -/
theorem reduce_row {α : Type} {u : Shape} {n k : Nat} (f : α → α → α) [Std.Commutative f] [Std.Associative f]
    (x : (⟨2, ![n, k]⟩ : Shape).Idx → α) (init : u.Idx → α)
    (h : (⟨2, ![n, k]⟩ : Shape).ReducesTo [1] ⟨1, ![n]⟩) (hu : 0 < u.numel) (r : Fin n) :
    Host.reduce f x init h hu (ix1 r)
      = (Finset.univ : Finset (Fin k)).fold f (init (Shape.Idx.first hu)) fun j => x (ix2 r j) := by
  rw [Host.reduce_eq_fold]
  simp only [pointwise]

/-- A left fold by an operation that returns one of its two arguments, with a value no less than either's: the
    result is the initial pair or an element of the list, and its value bounds every value met. -/
theorem foldl_pick {β : Type} (f : EReal × β → EReal × β → EReal × β)
    (hf : ∀ a b, (f a b = a ∨ f a b = b) ∧ a.1 ≤ (f a b).1 ∧ b.1 ≤ (f a b).1) (l : List (EReal × β)) :
    ∀ z, (l.foldl f z = z ∨ l.foldl f z ∈ l) ∧ z.1 ≤ (l.foldl f z).1 ∧ ∀ p ∈ l, p.1 ≤ (l.foldl f z).1 := by
  induction l with
  | nil => intro z; simp
  | cons p l ih =>
    intro z
    obtain ⟨hmem, hz, hl⟩ := ih (f z p)
    obtain ⟨hpick, h1, h2⟩ := hf z p
    rw [List.foldl_cons]
    refine ⟨?_, h1.trans hz, fun q hq => ?_⟩
    · rcases hmem with e | e
      · rcases hpick with e' | e'
        · exact Or.inl (e.trans e')
        · exact Or.inr (by rw [e, e']; exact List.mem_cons_self)
      · exact Or.inr (List.mem_cons_of_mem _ e)
    · rcases List.mem_cons.1 hq with rfl | hq
      · exact h2.trans hz
      · exact hl q hq

/-- The pairs that an arg-max over the rows of a matrix folds at row `r`: each entry of the row with its column. -/
theorem mem_fiber_row {n k : Nat} (x : (⟨2, ![n, k]⟩ : Shape).Idx → EReal)
    (h : (⟨2, ![n, k]⟩ : Shape).ReducesTo [1] ⟨1, ![n]⟩) (r : Fin n) (p : EReal × BitVec 32) :
    p ∈ Host.argReduceFiber x (iotaInDim ⟨2, ![n, k]⟩ 32 1) h (ix1 r)
      ↔ ∃ j : Fin k, p = (x (ix2 r j), BitVec.ofNat 32 j.val) := by
  unfold Host.argReduceFiber
  rw [List.mem_map]
  constructor
  · rintro ⟨i, hi, rfl⟩
    obtain ⟨j, hj⟩ := (h.fiber_r2_a1 (ix1 r) _).1 (of_decide_eq_true (List.mem_filter.1 hi).2)
    refine ⟨j, ?_⟩
    rw [← hj]
    rfl
  · rintro ⟨j, rfl⟩
    refine ⟨(⟨2, ![n, k]⟩ : Shape).rowMajor (ix2 r j), List.mem_filter.2 ⟨List.mem_finRange _, decide_eq_true ?_⟩, ?_⟩
    · rw [Equiv.symm_apply_apply]
      exact (h.fiber_r2_a1 (ix1 r) _).2 ⟨j, rfl⟩
    · rw [Equiv.symm_apply_apply]
      rfl

/-- A float arg-max over the rows of a matrix, started from `⊥` and column zero, ends at a column whose entry is a
    greatest one of the row. -/
theorem argmax_row {u : Shape} {n k : Nat}
    (f : Ideal .f32 × BitVec 32 → Ideal .f32 × BitVec 32 → Ideal .f32 × BitVec 32)
    (hf : ∀ a b : EReal × BitVec 32,
      (f a b = a ∨ f a b = b) ∧ a.1 ≤ (f a b : EReal × BitVec 32).1 ∧ b.1 ≤ (f a b : EReal × BitVec 32).1)
    (x : FVec Ideal ⟨2, ![n, k]⟩ .f32) (ix : FVec Ideal u .f32) (iy : IVec u 32)
    (h : (⟨2, ![n, k]⟩ : Shape).ReducesTo [1] ⟨1, ![n]⟩) (hu : 0 < u.numel)
    (hix : ix (Shape.Idx.first hu) = (⊥ : EReal)) (hiy : iy (Shape.Idx.first hu) = 0#32) (hk : 0 < k) (r : Fin n) :
    ∃ i : Fin k, (Host.argReduce f x (iotaInDim ⟨2, ![n, k]⟩ 32 1) ix iy h hu (ix1 r)).2 = BitVec.ofNat 32 i.val
      ∧ ∀ j, (x (ix2 r j) : EReal) ≤ x (ix2 r i) := by
  rw [Ideal.argReduce_eq_reduce2, Host.reduce2_eq_foldl_fiber, hix, hiy]
  obtain ⟨hmem, -, hle⟩ := foldl_pick f hf (Host.argReduceFiber x (iotaInDim ⟨2, ![n, k]⟩ 32 1) h (ix1 r)) (⊥, 0#32)
  have hall : ∀ j : Fin k, (x (ix2 r j) : EReal) ≤ _ := fun j => hle _ ((mem_fiber_row x h r _).2 ⟨j, rfl⟩)
  rcases hmem with e | e
  · refine ⟨⟨0, hk⟩, by rw [e], fun j => ?_⟩
    have := hall j
    rw [e] at this
    exact this.trans bot_le
  · obtain ⟨i, hi⟩ := (mem_fiber_row x h r _).1 e
    refine ⟨i, by rw [hi], fun j => ?_⟩
    have := hall j
    rw [hi] at this
    exact this

end Cert.Row

end
-- ==== Proof.Pre.lean ====
/- The precondition, read as a statement about each token's row. -/
module

public import proofs.«01_k».proof.Pre_ties_agree
public import proofs.«01_k».proof.Proof.Gen.Pre_ties_agree
public import proofs.«01_k».proof.Proof.Row
public import proofs.«01_k».proof.Proof.Spec
public import Idealize.ShloMosaic.Lib.Pointwise

@[expose] public section

set_option maxRecDepth 16384

noncomputable section

open Idealize.ShloMosaic

namespace Cert.Pre

open Cert.Pre_ties_agree Cert.Pre_ties_agree.Facts

variable [Cert.Pre_ties_agree.Facts]

theorem low : Ideal.ofBits .f32 0xFF800000#32 = ⊥ := by simp [Ideal.ofBits, Ideal.ieee]

theorem high : Ideal.ofBits .f32 0x7F800000#32 = ⊤ := by simp [Ideal.ofBits, Ideal.ieee]

theorem low_word : (constant S_ .f32 0xFF800000#32 : FVec Ideal S_ .f32) (Shape.Idx.first h_S_) = (⊥ : EReal) := by
  simp [constant, Ideal.ofBits, Ideal.ieee]

theorem high_word : (constant S_ .f32 0x7F800000#32 : FVec Ideal S_ .f32) (Shape.Idx.first h_S_) = (⊤ : EReal) := by
  simp [constant, Ideal.ofBits, Ideal.ieee]

/-- The columns whose entry is no less than their row's marked value keep the activation; the others take `z`. -/
theorem where_at (s : FVec Ideal S16384x1024 .f32) (M : FVec Ideal S16384 .f32) (a b : FVec Ideal S1024 .f32) (w : BitVec 32)
    (q : Fin 16384) (j : Fin 1024) :
    fn_where (F := Ideal) (cmpf .oge s (broadcastInDim S16384x1024 ![0, 1] bcast_S16384x1_S16384x1024_0_1
        (broadcastInDim S16384x1 ![0] bcast_S16384_S16384x1_0 M)))
      (broadcastInDim S1x1024 ![1] bcast_S1024_S1x1024_1 (Host.divf a b)) (constant S_ .f32 w) (ix2 q j)
      = if M (ix1 q) ≤ s (ix2 q j) then Ideal.div (a (ix1 j)) (b (ix1 j)) else Ideal.ofBits .f32 w := by
  pointwise [fn_where]
  rfl

/-- The maximum of a row. -/
theorem max_row (x : FVec Ideal S16384x1024 .f32) (q : Fin 16384) :
    Host.reduce FloatOps.maximumf x (constant S_ .f32 0xFF800000#32) reducesTo_S16384x1024_S16384_d1 h_S_ (ix1 q)
      = Spec.top fun j => x (ix2 q j) := by
  rw [Row.reduce_row (n := 16384) (k := 1024)]
  exact congrArg (fun z => Finset.univ.fold max z fun j => x (ix2 q j)) low_word

/-- The minimum of a row. -/
theorem min_row (x : FVec Ideal S16384x1024 .f32) (q : Fin 16384) :
    Host.reduce FloatOps.minimumf x (constant S_ .f32 0x7F800000#32) reducesTo_S16384x1024_S16384_d1 h_S_ (ix1 q)
      = Finset.univ.fold min (⊤ : EReal) fun j => x (ix2 q j) := by
  rw [Row.reduce_row (n := 16384) (k := 1024)]
  exact congrArg (fun z => Finset.univ.fold min z fun j => x (ix2 q j)) high_word

/-- A comparison that holds at row `q` is the inequality there. -/
theorem le_of_cmp (A B : FVec Ideal S16384 .f32) (q : Fin 16384) (h : cmpf .ole A B (ix1 q) = 1#1) :
    (A (ix1 q) : EReal) ≤ B (ix1 q) := by
  have h' : BitVec.ofBool (decide ((A (ix1 q) : EReal) ≤ B (ix1 q))) = 1#1 := h
  by_contra hn
  rw [decide_eq_false hn] at h'
  exact absurd h' (by decide)

section Masked

variable (s : FVec Ideal S16384x1024 .f32) (M : FVec Ideal S16384 .f32) (a b : FVec Ideal S1024 .f32) (q : Fin 16384)
  (hM : M (ix1 q) = Spec.top fun j => s (ix2 q j))

include hM

/-- The greatest activation among the columns where row `q` is greatest. -/
theorem masked_max : Host.reduce FloatOps.maximumf
      (fn_where (F := Ideal) (cmpf .oge s (broadcastInDim S16384x1024 ![0, 1] bcast_S16384x1_S16384x1024_0_1
        (broadcastInDim S16384x1 ![0] bcast_S16384_S16384x1_0 M)))
        (broadcastInDim S1x1024 ![1] bcast_S1024_S1x1024_1 (Host.divf a b)) (constant S_ .f32 0xFF800000#32))
      (constant S_ .f32 0xFF800000#32) reducesTo_S16384x1024_S16384_d1 h_S_ (ix1 q)
      = Finset.univ.fold max (⊥ : EReal) fun j =>
          if Spec.top (fun j => s (ix2 q j)) ≤ s (ix2 q j) then Ideal.div (a (ix1 j)) (b (ix1 j)) else ⊥ :=
  (max_row _ q).trans (congrArg Spec.top (funext fun j => by rw [where_at, hM, low]))

/-- The least activation among the columns where row `q` is greatest. -/
theorem masked_min : Host.reduce FloatOps.minimumf
      (fn_where (F := Ideal) (cmpf .oge s (broadcastInDim S16384x1024 ![0, 1] bcast_S16384x1_S16384x1024_0_1
        (broadcastInDim S16384x1 ![0] bcast_S16384_S16384x1_0 M)))
        (broadcastInDim S1x1024 ![1] bcast_S1024_S1x1024_1 (Host.divf a b)) (constant S_ .f32 0x7F800000#32))
      (constant S_ .f32 0x7F800000#32) reducesTo_S16384x1024_S16384_d1 h_S_ (ix1 q)
      = Finset.univ.fold min (⊤ : EReal) fun j =>
          if Spec.top (fun j => s (ix2 q j)) ≤ s (ix2 q j) then Ideal.div (a (ix1 j)) (b (ix1 j)) else ⊤ :=
  (min_row _ q).trans (congrArg (Finset.univ.fold min (⊤ : EReal)) (funext fun j => by rw [where_at, hM, high]))

end Masked

/-- If the second half of the precondition holds at row `q`, the activations of the columns where the row is greatest
    agree. -/
theorem agree_of_part (s : FVec Ideal S16384x1024 .f32) (b a : FVec Ideal S1024 .f32) (q : Fin 16384)
    (h : fn_part1 (F := Ideal) s b a (ix1 q) = 1#1) :
    Spec.Agree (fun j => s (ix2 q j)) (fun j => Ideal.div (a (ix1 j)) (b (ix1 j))) := by
  unfold fn_part1 at h
  have h3 := le_of_cmp _ _ q h
  exact (le_of_eq (masked_max s _ a b q (max_row s q)).symm).trans
    (h3.trans (le_of_eq (masked_min s _ a b q (max_row s q))))

/-- The similarity of row `q` with context `j`. -/
theorem sim_at (v : FVec Ideal S16384x1024 .f32) (w : FVec Ideal S1024x1024 .f32) (q : Fin 16384) (j : Fin 1024) :
    Host.dotGeneral (F := Ideal) dot_S16384x1024_S1024x1024_S16384x1024_1_0_0_1_n_n none
      (Host.divf v (broadcastInDim S16384x1024 ![0, 1] bcast_S16384x1_S16384x1024_0_1
        (fn_clip (F := Ideal) (fn_norm (F := Ideal) v) (constant S_ .f32 0x322BCC77#32))))
      (transpose S1024x1024 [1, 0] (Host.divf w (broadcastInDim S1024x1024 ![0, 1] bcast_S1024x1_S1024x1024_0_1
        (fn_clip_1 (F := Ideal) (fn_norm_0 (F := Ideal) w) (constant S_ .f32 0x322BCC77#32))))
        transposes_S1024x1024_S1024x1024_1_0) (ix2 q j)
      = Spec.simN (fun k => v (ix2 q k)) (fun j k => w (ix2 j k)) j := by
  pointwise [fn_clip, fn_norm, fn_clip_1, fn_norm_0]
  rfl

/-- The logistic as the precondition writes it, at an index. -/
theorem logistic_at (M : FVec Ideal S1024 .f32) (j : Fin 1024) :
    Ideal.div ((broadcastInDim S1024 ![] bcast_S_S1024 (constant S_ .f32 0x3F800000#32) : FVec Ideal S1024 .f32) (ix1 j))
      ((addf (broadcastInDim S1024 ![] bcast_S_S1024 (constant S_ .f32 0x3F800000#32))
        (Host.exp (Host.negf M)) : FVec Ideal S1024 .f32) (ix1 j)) = Ideal.logistic (M (ix1 j)) := by
  pointwise
  rfl

/-- The product of context `j` with segment `s`. -/
theorem seg_at (w : FVec Ideal S1024x1024 .f32) (md : FVec Ideal S512x1024 .f32) (j : Fin 1024) (s : Fin 512) :
    Host.dotGeneral (F := Ideal) dot_S1024x1024_S1024x512_S1024x512_1_0_0_1_n_n none w
      (transpose S1024x512 [1, 0] md transposes_S512x1024_S1024x512_1_0) (ix2 j s)
      = ∑ k, w (ix2 j k) * md (ix2 s k) := by
  pointwise

/-- The greatest product of context `j` with a segment. -/
theorem seg_max (w : FVec Ideal S1024x1024 .f32) (md : FVec Ideal S512x1024 .f32) (j : Fin 1024) :
    Host.reduce (α := Ideal .f32) FloatOps.maximumf
      (Host.dotGeneral (F := Ideal) dot_S1024x1024_S1024x512_S1024x512_1_0_0_1_n_n none w
        (transpose S1024x512 [1, 0] md transposes_S512x1024_S1024x512_1_0))
      (constant S_ .f32 0xFF800000#32) reducesTo_S1024x512_S1024_d1 h_S_ (ix1 j)
      = Spec.top fun s => ∑ k, w (ix2 j k) * md (ix2 s k) := by
  rw [Row.reduce_row (n := 1024) (k := 512), show (fun s => _) = _ from funext (seg_at w md j)]
  exact congrArg (fun z => Finset.univ.fold max z fun s => ∑ k, w (ix2 j k) * md (ix2 s k)) low_word

/-- Row `n * 2048 + r` of the matrix of tokens is token `r` of batch entry `n`. -/
theorem rows_at (x : FVec Ideal S8x2048x1024 .f32) (n : Fin 8) (r : Fin 2048) (h : n.val * 2048 + r.val < 16384)
    (k : Fin 1024) : (shapeCast S16384x1024 x shapeCasts_S8x2048x1024_S16384x1024 : FVec Ideal S16384x1024 .f32)
      (ix2 ⟨n.val * 2048 + r.val, h⟩ k) = x (ix3 n r k) := by
  pointwise

/-- Under the precondition, for every token the contexts that tie for the nearest have the same activation. -/
theorem agree (x : FVec Ideal S8x2048x1024 .f32) (md : FVec Ideal S512x1024 .f32) (w W : FVec Ideal S1024x1024 .f32)
    (b : FVec Ideal S1024 .f32) (hp : fn (F := Ideal) x md w W b = fun _ => 1#1) (n : Fin 8) (r : Fin 2048) :
    Spec.Agree (Spec.simN (fun k => x (ix3 n r k)) (fun j k => w (ix2 j k)))
      (fun j => Spec.act (fun s k => md (ix2 s k)) (fun k => w (ix2 j k))) := by
  have hq : n.val * 2048 + r.val < 16384 := by have := n.isLt; have := r.isLt; omega
  have h1 := congrFun hp (ix1 ⟨n.val * 2048 + r.val, hq⟩)
  unfold fn at h1
  have h2 := agree_of_part _ _ _ _ h1
  refine (congrArg₂ Spec.Agree (funext fun j => ?_) (funext fun j => ?_)).mp h2
  · refine (sim_at _ w _ j).trans ?_
    exact congrArg (fun v => Spec.simN v (fun j k => w (ix2 j k)) j) (funext fun k => rows_at x n r hq k)
  · refine (logistic_at _ j).trans ?_
    exact congrArg Ideal.logistic (seg_max w md j)

end Cert.Pre

end
-- ==== Proof.RefRun.lean ====
/- What the reference program computes, as a chain of named stages over its five arguments, and its run:
   the result buffer ends holding the last stage, and the arguments are kept. -/
module

public import proofs.«01_k».proof.ReferenceIdeal
public import proofs.«01_k».proof.Proof.Gen.ReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.RefRun

open Cert.ReferenceIdeal Cert.ReferenceIdeal.Gen

variable {F : FTy → Type} [FloatOps F]

/-- The tokens as one matrix of rows. -/
def rows (x : FVec F S8x2048x1024 .f32) : FVec F S16384x1024 .f32 :=
  shapeCast S16384x1024 x shapeCasts_S8x2048x1024_S16384x1024

/-- The clipped length of each row of tokens, as a column. -/
def rowLen (v : FVec F S16384x1024 .f32) : FVec F S16384x1 .f32 :=
  maximumf (broadcastInDim S16384x1 ![] bcast_S_S16384x1 (constant S_ .f32 0x322BCC77#32))
    (Host.sqrt (broadcastInDim S16384x1 ![0] bcast_S16384_S16384x1_0
      (Host.reduceAdd (mulf v v) (constant S_ .f32 0x00000000#32) reducesTo_S16384x1024_S16384_d1 h_S_)))

/-- The clipped length of each context, as a column. -/
def ctxLen (w : FVec F S1024x1024 .f32) : FVec F S1024x1 .f32 :=
  maximumf (broadcastInDim S1024x1 ![] bcast_S_S1024x1 (constant S_ .f32 0x322BCC77#32))
    (Host.sqrt (broadcastInDim S1024x1 ![0] bcast_S1024_S1024x1_0
      (Host.reduceAdd (mulf w w) (constant S_ .f32 0x00000000#32) reducesTo_S1024x1024_S1024_d1 h_S_)))

/-- The cosine similarity of every row of tokens with every context. -/
def simR (v : FVec F S16384x1024 .f32) (w : FVec F S1024x1024 .f32) : FVec F S16384x1024 .f32 :=
  Host.dotGeneral dot_S16384x1024_S1024x1024_S16384x1024_1_0_0_1_n_n none
    (Host.divf v (broadcastInDim S16384x1024 ![0, 1] bcast_S16384x1_S16384x1024_0_1 (rowLen v)))
    (transpose S1024x1024 [1, 0]
      (Host.divf w (broadcastInDim S1024x1024 ![0, 1] bcast_S1024x1_S1024x1024_0_1 (ctxLen w)))
      transposes_S1024x1024_S1024x1024_1_0)

/-- The second members of a family of pairs. -/
def seconds {ι α β : Type} (p : ι → α × β) : ι → β := fun j => (p j).2

/-- The column of the first largest entry of each row. -/
def argmaxR (s : FVec F S16384x1024 .f32) : IVec S16384 32 :=
  seconds (Host.argReduce reducer_argmax_f32_i32 s (iotaInDim S16384x1024 32 1) (constant S_ .f32 0xFF800000#32)
    (constantI S_ 32 0#32) reducesTo_S16384x1024_S16384_d1 h_S_)

/-- The index words with a negative one moved up by the number of contexts, as a column. -/
def wrapIdx (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Which of the index words name a context. -/
def inRange (k : IVec S16384x1 32) : IVec S16384 1 :=
  Host.reduce IntOp.andi
    (andi (cmpi .sge k (broadcastInDim S16384x1 ![] bcast_S_S16384x1 (constantI S_ 32 0#32)))
      (cmpi .sle k (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The context that each index word names. -/
def takeR (w : FVec F S1024x1024 .f32) (i : IVec S16384 32) : FVec F S16384x1024 .f32 :=
  select (broadcastInDim S16384x1024 ![0] bcast_S16384_S16384x1024_0 (inRange (wrapIdx i)))
    (Host.gather gather_S1024x1024_S16384x1_S16384x1024_1_0_n_n_0_1_11024 w (wrapIdx i))
    (broadcastInDim S16384x1024 ![] bcast_S_S16384x1024 (constant S_ .f32 0x7FC00000#32))

/-- The activation of a chosen context: the logistic of its largest product with a segment. -/
def actR (t : FVec F S16384x1024 .f32) (md : FVec F S512x1024 .f32) : FVec F S16384 .f32 :=
  Host.divf (broadcastInDim S16384 ![] bcast_S_S16384 (constant S_ .f32 0x3F800000#32))
    (addf (broadcastInDim S16384 ![] bcast_S_S16384 (constant S_ .f32 0x3F800000#32))
      (Host.exp (Host.negf (Host.reduce FloatOps.maximumf
        (Host.dotGeneral dot_S16384x1024_S1024x512_S16384x512_1_0_0_1_n_n none t
          (transpose S1024x512 [1, 0] md transposes_S512x1024_S1024x512_1_0))
        (constant S_ .f32 0xFF800000#32) reducesTo_S16384x512_S16384_d1 h_S_))))

/-- The linear layer on every row of tokens. -/
def linR (v : FVec F S16384x1024 .f32) (W : FVec F S1024x1024 .f32) (b : FVec F S1024 .f32) :
    FVec F S16384x1024 .f32 :=
  addf (Host.dotGeneral dot_S16384x1024_S1024x1024_S16384x1024_1_0_0_1_n_n none v
      (transpose S1024x1024 [1, 0] W transposes_S1024x1024_S1024x1024_1_0))
    (broadcastInDim S16384x1024 ![0, 1] bcast_S1x1024_S16384x1024_0_1
      (broadcastInDim S1x1024 ![1] bcast_S1024_S1x1024_1 b))

/-- The exact `gelu`, by the complementary error function. -/
def geluR (h : FVec F S16384x1024 .f32) : FVec F S16384x1024 .f32 :=
  mulf (mulf (broadcastInDim S16384x1024 ![] bcast_S_S16384x1024 (constant S_ .f32 0x3F000000#32)) h)
    (Host.erfc (mulf (Host.negf h)
      (broadcastInDim S16384x1024 ![] bcast_S_S16384x1024 (constant S_ .f32 0x3F3504F3#32))))

/-- The mean over the leading axis of the gated rows. -/
def meanR (g : FVec F S16384x1024 .f32) (a : FVec F S16384 .f32) : FVec F S2048x1024 .f32 :=
  Host.divf
    (Host.reduceAdd
      (shapeCast S8x2048x1024
        (mulf g (broadcastInDim S16384x1024 ![0, 1] bcast_S16384x1_S16384x1024_0_1
          (broadcastInDim S16384x1 ![0] bcast_S16384_S16384x1_0 a)))
        shapeCasts_S16384x1024_S8x2048x1024)
      (constant S_ .f32 0x00000000#32) reducesTo_S8x2048x1024_S2048x1024_d0 h_S_)
    (broadcastInDim S2048x1024 ![] bcast_S_S2048x1024 (constant S_ .f32 0x41000000#32))

/-- The whole reference over its five arguments. -/
def out (x : FVec F S8x2048x1024 .f32) (md : FVec F S512x1024 .f32) (w : FVec F S1024x1024 .f32)
    (W : FVec F S1024x1024 .f32) (b : FVec F S1024 .f32) : FVec F S2048x1024 .f32 :=
  meanR (geluR (linR (rows x) W b)) (actR (takeR w (argmaxR (simR (rows x) w))) md)

/-- The reference's run, from any memory: on every core the result buffer ends holding `out` of the
    argument buffers, and the argument buffers are kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v40) = out (m ((c : Thread nD τ).loc main_arg0))
          (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  hlo_run
  simp -implicitDefEqProofs only [StableHlo.TRef.ofBuf_toBuf, StableHlo.TRef.ofBuf, StableHlo.TRef.toBuf, cast_eq]
  unfold out meanR geluR linR actR takeR inRange wrapIdx argmaxR seconds simR ctxLen rowLen rows
  with_reducible_and_instances rfl

end Cert.RefRun

end
-- ==== Proof.RefValue.lean ====
/- The stages of the reference read at an index, at the extended reals. -/
module

public import proofs.«01_k».proof.Proof.RefRun
public import proofs.«01_k».proof.Proof.Row
public import proofs.«01_k».proof.Proof.Spec
public import Idealize.ShloMosaic.Lib.Routing.Ops
public import Idealize.ShloMosaic.Lib.ReduceAll

@[expose] public section

set_option maxRecDepth 16384

noncomputable section

open Idealize.ShloMosaic

namespace Cert.RefValue

open Cert.ReferenceIdeal Cert.ReferenceIdeal.Gen Cert.RefRun

/-- Row `n * 2048 + r` of the matrix of tokens is token `r` of batch entry `n`. -/
theorem rows_at (x : FVec Ideal S8x2048x1024 .f32) (n : Fin 8) (r : Fin 2048) (h : n.val * 2048 + r.val < 16384)
    (k : Fin 1024) : rows (F := Ideal) x (ix2 ⟨n.val * 2048 + r.val, h⟩ k) = x (ix3 n r k) := by
  pointwise [rows]

/-- The similarity of row `r` with context `j`. -/
theorem simR_at (v : FVec Ideal S16384x1024 .f32) (w : FVec Ideal S1024x1024 .f32) (r : Fin 16384) (j : Fin 1024) :
    simR (F := Ideal) v w (ix2 r j) = Spec.simN (fun k => v (ix2 r k)) (fun j k => w (ix2 j k)) j := by
  pointwise [simR, rowLen, ctxLen]
  rfl

theorem and_one (p : BitVec 1) : 1#1 &&& p = p := by revert p; decide

/-- The reference's arg-max operation returns one of its two pairs, with a value no less than either's. -/
theorem reducer_pick (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨a1, a2⟩ := a
  obtain ⟨b1, b2⟩ := b
  rcases lt_trichotomy a1 b1 with h | h | h
  · have h' := h.not_gt
    simp [reducer_argmax_f32_i32, Ideal.cmpf_def, Ideal.cmp, IntOp.ori, IntOp.andi, Scalar.select, h, h', h.ne, h.le]
  · subst h
    by_cases hs : IntOp.cmpi .slt a2 b2 = 1#1 <;>
      simp [reducer_argmax_f32_i32, Ideal.cmpf_def, Ideal.cmp, IntOp.ori, IntOp.andi, Scalar.select, and_one, hs]
  · have h' := h.not_gt
    simp [reducer_argmax_f32_i32, Ideal.cmpf_def, Ideal.cmp, IntOp.ori, IntOp.andi, Scalar.select, h, h', h.ne', h.le]

/-- The word that the arg-max starts from is `⊥`. -/
theorem negInf : (constant S_ .f32 0xFF800000#32 : FVec Ideal S_ .f32) (Shape.Idx.first h_S_) = (⊥ : EReal) := by
  simp [constant, Ideal.ofBits, Ideal.ieee]

theorem seconds_at {ι α β : Type} (p : ι → α × β) (j : ι) (w : β) (h : (p j).2 = w) : seconds p j = w := h

/-- The arg-max of row `r` is the column of a greatest entry. -/
theorem argmaxR_at (s : FVec Ideal S16384x1024 .f32) (r : Fin 16384) :
    ∃ i : Fin 1024, argmaxR (F := Ideal) s (ix1 r) = BitVec.ofNat 32 i.val ∧ ∀ j, s (ix2 r j) ≤ s (ix2 r i) := by
  unfold argmaxR
  obtain ⟨i, hi, hle⟩ := Row.argmax_row (n := 16384) (k := 1024) (reducer_argmax_f32_i32 (F := Ideal)) reducer_pick s
    (constant S_ .f32 0xFF800000#32) (constantI S_ 32 0#32) reducesTo_S16384x1024_S16384_d1 h_S_ negInf rfl (by decide) r
  exact ⟨i, seconds_at _ _ _ hi, hle⟩

/-- The word of a number below 1024 is not negative and is at most 1023. -/
theorem word_facts : ∀ b : Fin 1024, IntOp.cmpi .slt (BitVec.ofNat 32 b.val) 0#32 = 0#1
    ∧ IntOp.cmpi .sge (BitVec.ofNat 32 b.val) 0#32 = 1#1 ∧ IntOp.cmpi .sle (BitVec.ofNat 32 b.val) 1023#32 = 1#1 := by
  decide +kernel

/-- An index word that names a context is kept. -/
theorem wrapIdx_at (i : IVec S16384 32) (r : Fin 16384) (b : Fin 1024) (hb : i (ix1 r) = BitVec.ofNat 32 b.val) (c : Fin 1) :
    wrapIdx i (ix2 r c) = BitVec.ofNat 32 b.val := by
  pointwise [wrapIdx]
  rw [hb]
  rw [(word_facts b).1]
  rfl

/-- An index word that names a context is in range. -/
theorem inRange_at (k : IVec S16384x1 32) (r : Fin 16384) (b : Fin 1024) (hb : k (ix2 r 0) = BitVec.ofNat 32 b.val) :
    inRange k (ix1 r) = 1#1 := by
  unfold inRange
  rw [Row.reduce_row (n := 16384) (k := 1)]
  have hr : ∀ j : Fin 1, andi (cmpi .sge k (broadcastInDim S16384x1 ![] bcast_S_S16384x1 (constantI S_ 32 0#32)))
      (cmpi .sle k (broadcastInDim S16384x1 ![0, 1] bcast_S1x1_S16384x1_0_1
        (broadcastInDim S1x1 ![1] bcast_S1_S1x1_1 (constantI S1 32 1023#32)))) (ix2 r j) = 1#1 := fun j => by
    pointwise
    rw [Subsingleton.elim j 0, hb, (word_facts b).2.1, (word_facts b).2.2]
    rfl
  simp only [hr]
  rw [Finset.univ_unique, Finset.fold_singleton]
  rfl

/-- Row `r` of the gathered contexts is the context that its index word names. -/
theorem takeR_at (w : FVec Ideal S1024x1024 .f32) (i : IVec S16384 32) (r : Fin 16384) (b : Fin 1024)
    (hb : i (ix1 r) = BitVec.ofNat 32 b.val) (k : Fin 1024) : takeR (F := Ideal) w i (ix2 r k) = w (ix2 b k) := by
  pointwise [takeR]
  rw [inRange_at _ r b (wrapIdx_at i r b hb 0)]
  exact Routing.gather_row _ rfl rfl rfl rfl rfl w (wrapIdx i) r k b (wrapIdx_at i r b hb 0) (by decide)

/-- The logistic as the reference writes it, at an index. -/
theorem logistic_at (M : FVec Ideal S16384 .f32) (r : Fin 16384) :
    Host.divf (broadcastInDim S16384 ![] bcast_S_S16384 (constant S_ .f32 0x3F800000#32))
      (addf (broadcastInDim S16384 ![] bcast_S_S16384 (constant S_ .f32 0x3F800000#32))
        (Host.exp (Host.negf M))) (ix1 r) = Ideal.logistic (M (ix1 r)) := by
  pointwise
  rfl

/-- The products of the rows with the segments, at an index. -/
theorem segR_at (t : FVec Ideal S16384x1024 .f32) (md : FVec Ideal S512x1024 .f32) (r : Fin 16384) (s : Fin 512) :
    Host.dotGeneral (F := Ideal) dot_S16384x1024_S1024x512_S16384x512_1_0_0_1_n_n none t
      (transpose S1024x512 [1, 0] md transposes_S512x1024_S1024x512_1_0) (ix2 r s)
      = ∑ k, t (ix2 r k) * md (ix2 s k) := by
  pointwise

/-- The activation of row `r` of the chosen contexts. -/
theorem actR_at (t : FVec Ideal S16384x1024 .f32) (md : FVec Ideal S512x1024 .f32) (r : Fin 16384) :
    actR (F := Ideal) t md (ix1 r) = Spec.act (fun s k => md (ix2 s k)) (fun k => t (ix2 r k)) := by
  unfold actR
  rw [logistic_at, Row.reduce_row (n := 16384) (k := 512)]
  unfold Spec.act Spec.top
  refine congrArg Ideal.logistic ?_
  rw [show (fun s => _) = _ from funext (segR_at t md r)]
  exact congrArg (fun z => Finset.univ.fold max z fun s => ∑ k, t (ix2 r k) * md (ix2 s k)) negInf

/-- The linear layer and the gate, at an index. -/
theorem gelu_at (v : FVec Ideal S16384x1024 .f32) (W : FVec Ideal S1024x1024 .f32) (b : FVec Ideal S1024 .f32)
    (r : Fin 16384) (c : Fin 1024) : geluR (F := Ideal) (linR v W b) (ix2 r c)
      = Ideal.ofBits .f32 0x3F000000#32 * (∑ k, v (ix2 r k) * W (ix2 c k) + b (ix1 c))
        * Ideal.erfc (-(∑ k, v (ix2 r k) * W (ix2 c k) + b (ix1 c)) * Ideal.ofBits .f32 0x3F3504F3#32) := by
  pointwise [linR, geluR]

/-- The mean over the batch of the gated rows, at an index. -/
theorem meanR_at (v : FVec Ideal S16384x1024 .f32) (a : FVec Ideal S16384 .f32) (r : Fin 2048) (c : Fin 1024)
    (h : ∀ n : Fin 8, n.val * 2048 + r.val < 16384) : meanR (F := Ideal) v a (ix2 r c)
      = Ideal.div (∑ n : Fin 8, v (ix2 ⟨n.val * 2048 + r.val, h n⟩ c) * a (ix1 ⟨n.val * 2048 + r.val, h n⟩))
        (Ideal.ofBits .f32 0x41000000#32) := by
  pointwise [meanR]

end Cert.RefValue

end
-- ==== Proof.Equation.lean ====
/- The equation: at the extended reals, what the reference computes is the sum of the rows' contributions that the kernel
   adds up. -/
module

public import proofs.«01_k».proof.Proof.RefValue
public import proofs.«01_k».proof.Proof.Block
public import Idealize.ShloMosaic.PureOps.Ideal.Laws

@[expose] public section

set_option maxRecDepth 16384

noncomputable section

open Idealize.ShloMosaic

namespace Cert.Equation

open Cert.ReferenceIdeal Cert.ReferenceIdeal.Gen Cert.RefRun

theorem eighth : Ideal.ofBits .f32 0x3E000000#32 = (((1 / 8 : ℝ)) : EReal) := by
  simp [Ideal.ofBits, Ideal.ieee, -EReal.coe_mul]
  norm_num

theorem eight : Ideal.ofBits .f32 0x41000000#32 = ((8 : ℝ) : EReal) := by
  simp [Ideal.ofBits, Ideal.ieee, -EReal.coe_mul]
  norm_num

/-- Dividing by eight is multiplying by one eighth. -/
theorem div_eight (z : EReal) : Ideal.div z (Ideal.ofBits .f32 0x41000000#32) = z * Ideal.ofBits .f32 0x3E000000#32 := by
  rw [eight, eighth]
  unfold Ideal.div
  rw [if_neg (by exact_mod_cast (by norm_num : (8 : ℝ) ≠ 0))]
  rw [← EReal.coe_inv, one_div]

/-- One eighth distributes over a finite sum. -/
theorem sum_mul_eighth {n : Nat} (f : Fin n → EReal) :
    (∑ i, f i) * Ideal.ofBits .f32 0x3E000000#32 = ∑ i, f i * Ideal.ofBits .f32 0x3E000000#32 := by
  have h0 : (0 : EReal) ≤ Ideal.ofBits .f32 0x3E000000#32 := by
    rw [eighth]
    exact_mod_cast (by norm_num : (0 : ℝ) ≤ 1 / 8)
  have ht : Ideal.ofBits .f32 0x3E000000#32 ≠ ⊤ := by
    rw [eighth]
    exact EReal.coe_ne_top _
  refine Finset.induction_on (Finset.univ : Finset (Fin n)) (by simp) fun i s hi ih => ?_
  rw [Finset.sum_insert hi, Finset.sum_insert hi, EReal.right_distrib_of_nonneg_of_ne_top h0 ht, ih]

/-- The `gelu` that the reference writes with the complementary error function is the one written with the error function. -/
theorem gate_eq (h : EReal) : Ideal.ofBits .f32 0x3F000000#32 * h * Ideal.erfc (-h * Ideal.ofBits .f32 0x3F3504F3#32)
    = Block.gate h := by
  rw [Block.gate, neg_mul, Ideal.erfc_neg]

variable (x : FVec Ideal S8x2048x1024 .f32) (md : FVec Ideal S512x1024 .f32) (w W : FVec Ideal S1024x1024 .f32)
  (b : FVec Ideal S1024 .f32)

/-- The activation that the reference gives to token `r` of batch entry `n`, its nearest context's, is the greatest one
    among the contexts whose product with the token is greatest. -/
theorem act_eq (n : Fin 8) (r : Fin 2048) (h : n.val * 2048 + r.val < 16384)
    (hA : Spec.Agree (Spec.simN (fun k => x (ix3 n r k)) (fun j k => w (ix2 j k)))
      (fun j => Spec.act (fun s k => md (ix2 s k)) (fun k => w (ix2 j k)))) :
    actR (F := Ideal) (takeR w (argmaxR (simR (rows x) w))) md (ix1 ⟨n.val * 2048 + r.val, h⟩)
      = Block.pick
          (Block.sim (fun k => x (ix3 n r k)) (fun j k => Ideal.div (w (ix2 j k)) (Spec.len fun k => w (ix2 j k))))
          (fun j => Spec.act (fun s k => md (ix2 s k)) (fun k => w (ix2 j k))) := by
  obtain ⟨i, hi, hle⟩ := RefValue.argmaxR_at (simR (rows x) w) ⟨n.val * 2048 + r.val, h⟩
  have hs (j : Fin 1024) : simR (F := Ideal) (rows x) w (ix2 ⟨n.val * 2048 + r.val, h⟩ j)
      = Spec.simN (fun k => x (ix3 n r k)) (fun j k => w (ix2 j k)) j := by
    rw [RefValue.simR_at]
    exact congrArg (fun v => Spec.simN v (fun j k => w (ix2 j k)) j) (funext fun k => RefValue.rows_at x n r h k)
  rw [RefValue.actR_at, show (fun k => takeR (F := Ideal) w _ (ix2 ⟨n.val * 2048 + r.val, h⟩ k)) = _ from
    funext fun k => RefValue.takeR_at w (argmaxR (simR (rows x) w)) ⟨n.val * 2048 + r.val, h⟩ i hi k]
  exact (Spec.pick_eq (fun k => x (ix3 n r k)) (fun j k => w (ix2 j k)) _ (fun j => Spec.act_nonneg _ _) hA i
    (fun j => by rw [← hs j, ← hs i]; exact hle j)).symm

/-- The reference at token `R` and output `C`: the sum, over the rows of the batch, of the row's contribution. -/
theorem out_at (hA : ∀ (n : Fin 8) (r : Fin 2048), Spec.Agree (Spec.simN (fun k => x (ix3 n r k)) (fun j k => w (ix2 j k)))
      (fun j => Spec.act (fun s k => md (ix2 s k)) (fun k => w (ix2 j k)))) (R : Fin 2048) (C : Fin 1024) :
    out (F := Ideal) x md w W b (ix2 R C)
      = ∑ n : Fin 8, Block.contrib (fun j k => Ideal.div (w (ix2 j k)) (Spec.len fun k => w (ix2 j k)))
          (fun j k => W (ix2 j k)) (fun c => b (ix1 c))
          (fun j => Spec.act (fun s k => md (ix2 s k)) (fun k => w (ix2 j k))) C (fun k => x (ix3 n R k)) := by
  have h (n : Fin 8) : n.val * 2048 + R.val < 16384 := by have := n.isLt; have := R.isLt; omega
  unfold out
  rw [RefValue.meanR_at _ _ R C h, div_eight, sum_mul_eighth]
  refine Finset.sum_congr rfl fun n _ => ?_
  rw [RefValue.gelu_at, gate_eq, act_eq x md w n R (h n) (hA n R), mul_assoc]
  unfold Block.contrib Block.hid
  simp only [RefValue.rows_at x n R (h n)]

end Cert.Equation

end
-- ==== Proof.lean ====
/- The certificate: every part of `Cert.Claim`, assembled.
   What one block computes is in `Proof.Block`, what the output array holds in `Proof.Points`, what the reference computes
   in `Proof.RefValue`, the precondition at a row in `Proof.Pre`, and the equation in `Proof.Equation`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ties_agree
public import proofs.«01_k».proof.Proof.Gen.KernelIdeal.Value
public import proofs.«01_k».proof.Proof.Points
public import proofs.«01_k».proof.Proof.Pre
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates from any memory with its arguments kept and every semaphore at zero. -/
theorem quiet_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.RefRun.run (F := Ideal) m ρ)

/-- Under the precondition, the kernel's array is the reference's result of the same arguments. -/
theorem value (m : (ℓ : Loc Cert.KernelIdeal.nD Cert.KernelIdeal.τ Cert.KernelIdeal.sig) → Buf (Elt Ideal) ℓ)
    (hpre : Cert.Pre_KernelIdeal_ties_agree (hPre_ties_agree := Cert.Pre_ties_agree.Gen.facts) m)
    (c : Dev Cert.KernelIdeal.nD) :
    Cert.RefRun.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Value.G5 m c := by
  funext i
  have hi : i = ix2 (i 0) (i 1) := by
    funext a
    match a with
    | ⟨0, _⟩ => rfl
    | ⟨1, _⟩ => rfl
  rw [hi]
  exact (Cert.Equation.out_at _ _ _ _ _ (fun n r => Cert.Pre.agree _ _ _ _ _ (hpre c) n r) (i 0) (i 1)).trans
    (Cert.Points.G5_at m c (i 0) (i 1)).symm

/-- The value claim: from memories that agree on the arguments, under the precondition, the kernel and the reference both
    run, end with the same result and keep their arguments. -/
theorem algebraic : Cert.algebraic_KernelIdeal_ReferenceIdeal_pre_ties_agree
    (hKernelIdeal := Cert.KernelIdeal.Gen.facts) (hReferenceIdeal := Cert.ReferenceIdeal.Gen.facts)
    (hPre_ties_agree := Cert.Pre_ties_agree.Gen.facts) := by
  intro m ρ m' ρ' hpre hagree
  refine ⟨fun c => Cert.KernelIdeal.Value.G5 m c, Cert.KernelIdeal.Value.run (F := Ideal) m ρ, ?_⟩
  refine (θ_run Cert.ReferenceIdeal.defs _ _).mono (fun r h c => ⟨(h c).1.trans ?_, (h c).2⟩)
    (Cert.RefRun.run (F := Ideal) m' ρ')
  refine Eq.trans ?_ (value m hpre c)
  rw [(hagree c).1, (hagree c).2.1, (hagree c).2.2.1, (hagree c).2.2.2.1, (hagree c).2.2.2.2]

/-- Everything the certificate claims. -/
theorem claim : Cert.Claim :=
  ⟨Cert.Kernel.Gen.facts, Cert.KernelIdeal.Gen.facts, Cert.ReferenceIdeal.Gen.facts, Cert.Pre_ties_agree.Gen.facts,
    fun m ρ _ => Cert.Kernel.Gen.frame m ρ,
    fun m ρ _ => Cert.KernelIdeal.Gen.frame m ρ,
    fun m ρ _ => Cert.KernelIdeal.Gen.frame m ρ,
    quiet_reference,
    fun m ρ _ => quiet_reference m ρ trivial,
    trivial,
    algebraic⟩

end Cert.Proof

end
